-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_inverted [hPre_routes_inverted : Cert.Pre_routes_inverted.Facts] (m : (ℓ : Loc Cert.KernelIdeal.nD Cert.KernelIdeal.τ Cert.KernelIdeal.sig) → Buf (Elt Ideal) ℓ) : Prop :=
  ∀ c : Dev Cert.KernelIdeal.nD,
    (Cert.Pre_routes_inverted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_inverted [hPre_routes_inverted : Cert.Pre_routes_inverted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_inverted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_routes_inverted [hKernelIdeal : Cert.KernelIdeal.Facts] [hPre_routes_inverted : Cert.Pre_routes_inverted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_inverted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routes_inverted [hReferenceIdeal : Cert.ReferenceIdeal.Facts] [hPre_routes_inverted : Cert.Pre_routes_inverted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_inverted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_routes_inverted [hKernelIdeal : Cert.KernelIdeal.Facts] [hReferenceIdeal : Cert.ReferenceIdeal.Facts] [hPre_routes_inverted : Cert.Pre_routes_inverted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_inverted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_routes_inverted : Cert.Pre_routes_inverted.Facts),
    quiescent_Kernel (hKernel := hKernel)
    ∧ quiescent_KernelIdeal (hKernelIdeal := hKernelIdeal)
    ∧ quiescent_KernelIdeal_pre_routes_inverted (hKernelIdeal := hKernelIdeal) (hPre_routes_inverted := hPre_routes_inverted)
    ∧ quiescent_ReferenceIdeal (hReferenceIdeal := hReferenceIdeal)
    ∧ quiescent_ReferenceIdeal_pre_routes_inverted (hReferenceIdeal := hReferenceIdeal) (hPre_routes_inverted := hPre_routes_inverted)
    ∧ preserves_Kernel_KernelIdeal
    ∧ algebraic_KernelIdeal_ReferenceIdeal_pre_routes_inverted (hKernelIdeal := hKernelIdeal) (hReferenceIdeal := hReferenceIdeal) (hPre_routes_inverted := hPre_routes_inverted)
-- ==== Pre_routes_inverted.lean ====
abbrev S8x192x56x56 : Shape := ⟨4, ![8, 192, 56, 56]⟩
abbrev S3136 : Shape := ⟨1, ![3136]⟩
abbrev S192x192 : Shape := ⟨2, ![192, 192]⟩
abbrev S_ : Shape := ⟨0, ![]⟩
abbrev S3136x1 : Shape := ⟨2, ![3136, 1]⟩
abbrev S1 : Shape := ⟨1, ![1]⟩
abbrev S1x1 : Shape := ⟨2, ![1, 1]⟩

class Facts : Prop where
  bcast_S_S3136 : S_.BroadcastsInDim S3136 (![] : Fin 0 → Fin S3136.rank)
  bcast_S3136_S3136x1_0 : S3136.BroadcastsInDim S3136x1 (![0] : Fin 1 → Fin S3136x1.rank)
  bcast_S_S3136x1 : S_.BroadcastsInDim S3136x1 (![] : Fin 0 → Fin S3136x1.rank)
  bcast_S1_S1x1_1 : S1.BroadcastsInDim S1x1 (![1] : Fin 1 → Fin S1x1.rank)
  bcast_S1x1_S3136x1_0_1 : S1x1.BroadcastsInDim S3136x1 (![0, 1] : Fin 2 → Fin S3136x1.rank)
  reducesTo_S3136x1_S3136_d1 : S3136x1.ReducesTo [1] S3136
  h_S_ : 0 < S_.numel
  gather_S3136_S3136x1_S3136_n_0_n_n_0_1_1_wf : GatherDims.WF S3136 S3136x1 S3136 [] [0] [] [0] [] 1 ![1]

variable [Facts]

def gather_S3136_S3136x1_S3136_n_0_n_n_0_1_1 : GatherDims S3136 S3136x1 S3136 where
  offsetDims := []
  collapsedSliceDims := [0]
  operandBatchingDims := []
  startIndicesBatchingDims := []
  startIndexMap := [0]
  indexVectorDim := 1
  sliceSizes := ![1]
  wf := gather_S3136_S3136x1_S3136_n_0_n_n_0_1_1_wf
def fn_where {F : FTy → Type} [FloatOps F] (arg0 : IVec S3136 1) (arg1 : IVec S3136 32) (arg2 : IVec S3136 32) : IVec S3136 32 :=
  let v0 : IVec S3136 32 := select arg0 arg1 arg2
  v0

def fn_take {F : FTy → Type} [FloatOps F] (arg0 : IVec S3136 32) (arg1 : IVec S3136 32) : IVec S3136 32 :=
  let c : IVec S_ 32 := constantI S_ 32 0#32
  let v0 : IVec S3136 32 := broadcastInDim S3136 ![] bcast_S_S3136 c
  let v1 : IVec S3136 1 := cmpi .slt arg1 v0
  let c_0 : IVec S_ 32 := constantI S_ 32 3136#32
  let v2 : IVec S3136 32 := broadcastInDim S3136 ![] bcast_S_S3136 c_0
  let v3 : IVec S3136 32 := addi arg1 v2
  let v4 : IVec S3136 32 := fn_where (F := F) v1 v3 arg1
  let v5 : IVec S3136x1 32 := broadcastInDim S3136x1 ![0] bcast_S3136_S3136x1_0 v4
  let c_1 : IVec S1 32 := constantI S1 32 3135#32
  let c_2 : IVec S_ 32 := constantI S_ 32 0#32
  let v6 : IVec S3136x1 32 := broadcastInDim S3136x1 ![] bcast_S_S3136x1 c_2
  let v7 : IVec S3136x1 1 := cmpi .sge v5 v6
  let v8 : IVec S1x1 32 := broadcastInDim S1x1 ![1] bcast_S1_S1x1_1 c_1
  let v9 : IVec S3136x1 32 := broadcastInDim S3136x1 ![0, 1] bcast_S1x1_S3136x1_0_1 v8
  let v10 : IVec S3136x1 1 := cmpi .sle v5 v9
  let v11 : IVec S3136x1 1 := andi v7 v10
  let c_3 : IVec S_ 1 := constantI S_ 1 1#1
  let v12 : IVec S3136 1 := (fun x v => Host.reduce IntOp.andi x v reducesTo_S3136x1_S3136_d1 h_S_) v11 c_3
  let v13 : IVec S3136 32 := (fun x i => Host.gather gather_S3136_S3136x1_S3136_n_0_n_n_0_1_1 x i) arg0 v5
  let c_4 : IVec S_ 32 := constantI S_ 32 2147483648#32
  let v14 : IVec S3136 32 := broadcastInDim S3136 ![] bcast_S_S3136 c_4
  let v15 : IVec S3136 32 := select v12 v13 v14
  v15

def fn {F : FTy → Type} [FloatOps F] (main_arg0 : FVec F S8x192x56x56 .f32) (main_arg1 : IVec S3136 32) (main_arg2 : IVec S3136 32) (main_arg3 : IVec S3136 32) (main_arg4 : IVec S3136 32) (main_arg5 : FVec F S192x192 .f32) : IVec S3136 1 :=
  let main_v0 : IVec S3136 32 := iotaInDim S3136 32 0
  let main_v1 : IVec S3136 32 := fn_take (F := F) main_arg1 main_arg3
  let main_v2 : IVec S3136 1 := cmpi .eq main_v1 main_v0
  let main_v3 : IVec S3136 32 := fn_take (F := F) main_arg2 main_arg4
  let main_v4 : IVec S3136 1 := cmpi .eq main_v3 main_v0
  let main_v5 : IVec S3136 1 := andi main_v2 main_v4
  main_v5
-- ==== Kernel.lean ====
abbrev S8x192x56x56 : Shape := ⟨4, ![8, 192, 56, 56]⟩
abbrev S3136 : Shape := ⟨1, ![3136]⟩
abbrev S192x192 : Shape := ⟨2, ![192, 192]⟩
abbrev S8x192x3136 : Shape := ⟨3, ![8, 192, 3136]⟩
abbrev S8x4x192x3136 : Shape := ⟨4, ![8, 4, 192, 3136]⟩
abbrev S2x192x3136 : Shape := ⟨3, ![2, 192, 3136]⟩
abbrev S2x4x192x3136 : Shape := ⟨4, ![2, 4, 192, 3136]⟩
abbrev S1x192x3136 : Shape := ⟨3, ![1, 192, 3136]⟩
abbrev S192x3136 : Shape := ⟨2, ![192, 3136]⟩
abbrev S1x1x192x3136 : Shape := ⟨4, ![1, 1, 192, 3136]⟩

abbrev nBuf : Space → Nat
  | .hbm => 8
  | .vmem => 5
  | .smem => 0
  | _ => 0

abbrev bufTy : (tb : Table) → Fin (tcTables nBuf tb) → BufTy
  | .hbm, ⟨0, _⟩ => ⟨S8x192x56x56, .f32⟩
  | .hbm, ⟨1, _⟩ => ⟨S3136, .i32⟩
  | .hbm, ⟨2, _⟩ => ⟨S3136, .i32⟩
  | .hbm, ⟨3, _⟩ => ⟨S3136, .i32⟩
  | .hbm, ⟨4, _⟩ => ⟨S3136, .i32⟩
  | .hbm, ⟨5, _⟩ => ⟨S192x192, .f32⟩
  | .hbm, ⟨6, _⟩ => ⟨S8x192x3136, .f32⟩
  | .hbm, ⟨7, _⟩ => ⟨S8x4x192x3136, .f32⟩
  | .local _ .vmem, ⟨0, _⟩ => ⟨S2x192x3136, .f32⟩
  | .local _ .vmem, ⟨1, _⟩ => ⟨S2x192x3136, .f32⟩
  | .local _ .vmem, ⟨2, _⟩ => ⟨S192x192, .f32⟩
  | .local _ .vmem, ⟨3, _⟩ => ⟨S2x4x192x3136, .f32⟩
  | .local _ .vmem, ⟨4, _⟩ => ⟨S2x4x192x3136, .f32⟩
  | _, _ => ⟨S8x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x192x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x192x56x56 : Shape := ⟨4, ![8, 192, 56, 56]⟩
abbrev S3136 : Shape := ⟨1, ![3136]⟩
abbrev S192x192 : Shape := ⟨2, ![192, 192]⟩
abbrev S8x192x3136 : Shape := ⟨3, ![8, 192, 3136]⟩
abbrev S_ : Shape := ⟨0, ![]⟩
abbrev S3136x1 : Shape := ⟨2, ![3136, 1]⟩
abbrev S1 : Shape := ⟨1, ![1]⟩
abbrev S1x1 : Shape := ⟨2, ![1, 1]⟩
abbrev S8x1x192x3136 : Shape := ⟨4, ![8, 1, 192, 3136]⟩
abbrev S8x4x192x3136 : Shape := ⟨4, ![8, 4, 192, 3136]⟩
abbrev S192x8x4x3136 : Shape := ⟨4, ![192, 8, 4, 3136]⟩

abbrev nBuf : Space → Nat
  | .hbm => 169
  | .vmem => 0
  | .smem => 0
  | _ => 0

abbrev hbmTy0_0 (i : Nat) : BufTy := match i % 128 with
  | 0 => ⟨S8x192x56x56, .f32⟩
  | 1 => ⟨S3136, .i32⟩
  | 2 => ⟨S3136, .i32⟩
  | 3 => ⟨S3136, .i32⟩
  | 4 => ⟨S3136, .i32⟩
  | 5 => ⟨S192x192, .f32⟩
  | 6 => ⟨S8x192x3136, .f32⟩
  | 7 => ⟨S_, .i32⟩
  | 8 => ⟨S3136, .i32⟩
  | 9 => ⟨S3136, .i1⟩
  | 10 => ⟨S_, .i32⟩
  | 11 => ⟨S3136, .i32⟩
  | 12 => ⟨S3136, .i32⟩
  | 13 => ⟨S3136, .i32⟩
  | 14 => ⟨S3136x1, .i32⟩
  | 15 => ⟨S1, .i32⟩
  | 16 => ⟨S_, .i32⟩
  | 17 => ⟨S3136x1, .i32⟩
  | 18 => ⟨S3136x1, .i1⟩
  | 19 => ⟨S1x1, .i32⟩
  | 20 => ⟨S3136x1, .i32⟩
  | 21 => ⟨S3136x1, .i1⟩
  | 22 => ⟨S3136x1, .i1⟩
  | 23 => ⟨S_, .i1⟩
  | 24 => ⟨S3136, .i1⟩
  | 25 => ⟨S8x192x3136, .f32⟩
  | 26 => ⟨S8x192x3136, .i1⟩
  | 27 => ⟨S_, .f32⟩
  | 28 => ⟨S8x192x3136, .f32⟩
  | 29 => ⟨S8x192x3136, .f32⟩
  | 30 => ⟨S_, .i32⟩
  | 31 => ⟨S3136, .i32⟩
  | 32 => ⟨S3136, .i1⟩
  | 33 => ⟨S_, .i32⟩
  | 34 => ⟨S3136, .i32⟩
  | 35 => ⟨S3136, .i32⟩
  | 36 => ⟨S3136, .i32⟩
  | 37 => ⟨S3136x1, .i32⟩
  | 38 => ⟨S1, .i32⟩
  | 39 => ⟨S_, .i32⟩
  | 40 => ⟨S3136x1, .i32⟩
  | 41 => ⟨S3136x1, .i1⟩
  | 42 => ⟨S1x1, .i32⟩
  | 43 => ⟨S3136x1, .i32⟩
  | 44 => ⟨S3136x1, .i1⟩
  | 45 => ⟨S3136x1, .i1⟩
  | 46 => ⟨S_, .i1⟩
  | 47 => ⟨S3136, .i1⟩
  | 48 => ⟨S8x192x3136, .f32⟩
  | 49 => ⟨S8x192x3136, .i1⟩
  | 50 => ⟨S_, .f32⟩
  | 51 => ⟨S8x192x3136, .f32⟩
  | 52 => ⟨S8x192x3136, .f32⟩
  | 53 => ⟨S8x192x3136, .f32⟩
  | 54 => ⟨S8x192x3136, .f32⟩
  | 55 => ⟨S8x1x192x3136, .f32⟩
  | 56 => ⟨S8x1x192x3136, .f32⟩
  | 57 => ⟨S8x1x192x3136, .f32⟩
  | 58 => ⟨S8x1x192x3136, .f32⟩
  | 59 => ⟨S8x4x192x3136, .f32⟩
  | 60 => ⟨S192x8x4x3136, .f32⟩
  | 61 => ⟨S8x4x192x3136, .f32⟩
  | 62 => ⟨S8x1x192x3136, .f32⟩
  | 63 => ⟨S8x192x3136, .f32⟩
  | 64 => ⟨S_, .i32⟩
  | 65 => ⟨S3136, .i32⟩
  | 66 => ⟨S3136, .i1⟩
  | 67 => ⟨S_, .i32⟩
  | 68 => ⟨S3136, .i32⟩
  | 69 => ⟨S3136, .i32⟩
  | 70 => ⟨S3136, .i32⟩
  | 71 => ⟨S3136x1, .i32⟩
  | 72 => ⟨S1, .i32⟩
  | 73 => ⟨S_, .i32⟩
  | 74 => ⟨S3136x1, .i32⟩
  | 75 => ⟨S3136x1, .i1⟩
  | 76 => ⟨S1x1, .i32⟩
  | 77 => ⟨S3136x1, .i32⟩
  | 78 => ⟨S3136x1, .i1⟩
  | 79 => ⟨S3136x1, .i1⟩
  | 80 => ⟨S_, .i1⟩
  | 81 => ⟨S3136, .i1⟩
  | 82 => ⟨S8x192x3136, .f32⟩
  | 83 => ⟨S8x192x3136, .i1⟩
  | 84 => ⟨S_, .f32⟩
  | 85 => ⟨S8x192x3136, .f32⟩
  | 86 => ⟨S8x192x3136, .f32⟩
  | 87 => ⟨S8x1x192x3136, .f32⟩
  | 88 => ⟨S8x192x3136, .f32⟩
  | 89 => ⟨S_, .i32⟩
  | 90 => ⟨S3136, .i32⟩
  | 91 => ⟨S3136, .i1⟩
  | 92 => ⟨S_, .i32⟩
  | 93 => ⟨S3136, .i32⟩
  | 94 => ⟨S3136, .i32⟩
  | 95 => ⟨S3136, .i32⟩
  | 96 => ⟨S3136x1, .i32⟩
  | 97 => ⟨S1, .i32⟩
  | 98 => ⟨S_, .i32⟩
  | 99 => ⟨S3136x1, .i32⟩
  | 100 => ⟨S3136x1, .i1⟩
  | 101 => ⟨S1x1, .i32⟩
  | 102 => ⟨S3136x1, .i32⟩
  | 103 => ⟨S3136x1, .i1⟩
  | 104 => ⟨S3136x1, .i1⟩
  | 105 => ⟨S_, .i1⟩
  | 106 => ⟨S3136, .i1⟩
  | 107 => ⟨S8x192x3136, .f32⟩
  | 108 => ⟨S8x192x3136, .i1⟩
  | 109 => ⟨S_, .f32⟩
  | 110 => ⟨S8x192x3136, .f32⟩
  | 111 => ⟨S8x192x3136, .f32⟩
  | 112 => ⟨S8x1x192x3136, .f32⟩
  | 113 => ⟨S8x192x3136, .f32⟩
  | 114 => ⟨S8x192x3136, .f32⟩
  | 115 => ⟨S_, .i32⟩
  | 116 => ⟨S3136, .i32⟩
  | 117 => ⟨S3136, .i1⟩
  | 118 => ⟨S_, .i32⟩
  | 119 => ⟨S3136, .i32⟩
  | 120 => ⟨S3136, .i32⟩
  | 121 => ⟨S3136, .i32⟩
  | 122 => ⟨S3136x1, .i32⟩
  | 123 => ⟨S1, .i32⟩
  | 124 => ⟨S_, .i32⟩
  | 125 => ⟨S3136x1, .i32⟩
  | 126 => ⟨S3136x1, .i1⟩
  | 127 => ⟨S1x1, .i32⟩
  | _ => ⟨S8x192x56x56, .f32⟩

abbrev hbmTy0_1 (i : Nat) : BufTy := match i % 128 with
  | 0 => ⟨S3136x1, .i32⟩
  | 1 => ⟨S3136x1, .i1⟩
  | 2 => ⟨S3136x1, .i1⟩
  | 3 => ⟨S_, .i1⟩
  | 4 => ⟨S3136, .i1⟩
  | 5 => ⟨S8x192x3136, .f32⟩
  | 6 => ⟨S8x192x3136, .i1⟩
  | 7 => ⟨S_, .f32⟩
  | 8 => ⟨S8x192x3136, .f32⟩
  | 9 => ⟨S8x192x3136, .f32⟩
  | 10 => ⟨S8x1x192x3136, .f32⟩
  | 11 => ⟨S8x192x3136, .f32⟩
  | 12 => ⟨S8x192x3136, .f32⟩
  | 13 => ⟨S_, .i32⟩
  | 14 => ⟨S3136, .i32⟩
  | 15 => ⟨S3136, .i1⟩
  | 16 => ⟨S_, .i32⟩
  | 17 => ⟨S3136, .i32⟩
  | 18 => ⟨S3136, .i32⟩
  | 19 => ⟨S3136, .i32⟩
  | 20 => ⟨S3136x1, .i32⟩
  | 21 => ⟨S1, .i32⟩
  | 22 => ⟨S_, .i32⟩
  | 23 => ⟨S3136x1, .i32⟩
  | 24 => ⟨S3136x1, .i1⟩
  | 25 => ⟨S1x1, .i32⟩
  | 26 => ⟨S3136x1, .i32⟩
  | 27 => ⟨S3136x1, .i1⟩
  | 28 => ⟨S3136x1, .i1⟩
  | 29 => ⟨S_, .i1⟩
  | 30 => ⟨S3136, .i1⟩
  | 31 => ⟨S8x192x3136, .f32⟩
  | 32 => ⟨S8x192x3136, .i1⟩
  | 33 => ⟨S_, .f32⟩
  | 34 => ⟨S8x192x3136, .f32⟩
  | 35 => ⟨S8x192x3136, .f32⟩
  | 36 => ⟨S8x1x192x3136, .f32⟩
  | 37 => ⟨S8x1x192x3136, .f32⟩
  | 38 => ⟨S8x1x192x3136, .f32⟩
  | 39 => ⟨S8x1x192x3136, .f32⟩
  | 40 => ⟨S8x4x192x3136, .f32⟩
  | _ => ⟨S8x192x56x56, .f32⟩

abbrev hbmTy (i : Nat) : BufTy := match i / 128 with
  | 0 => hbmTy0_0 i
  | 1 => hbmTy0_1 i
  | _ => ⟨S8x192x56x56, .f32⟩

abbrev bufTy : (tb : Table) → Fin (tcTables nBuf tb) → BufTy
  | .hbm, ⟨i, _⟩ => hbmTy i
  | _, _ => ⟨S8x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_c_1 : Ref sig .tc := ⟨.hbm, 72, rfl⟩
abbrev main_call4_c_2 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_3 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_call4_cst : Ref sig .tc := ⟨.hbm, 84, rfl⟩
abbrev main_call4_v15 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_call5_c : Ref sig .tc := ⟨.hbm, 89, rfl⟩
abbrev main_call5_v0 : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_v5 : Ref sig .tc := ⟨.hbm, 96, rfl⟩
abbrev main_call5_c_1 : Ref sig .tc := ⟨.hbm, 97, rfl⟩
abbrev main_call5_c_2 : Ref sig .tc := ⟨.hbm, 98, rfl⟩
abbrev main_call5_v6 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_c_3 : Ref sig .tc := ⟨.hbm, 105, rfl⟩
abbrev main_call5_v12 : Ref sig .tc := ⟨.hbm, 106, rfl⟩
abbrev main_call5_v13 : Ref sig .tc := ⟨.hbm, 107, rfl⟩
abbrev main_call5_v14 : Ref sig .tc := ⟨.hbm, 108, rfl⟩
abbrev main_call5_cst : Ref sig .tc := ⟨.hbm, 109, rfl⟩
abbrev main_call5_v15 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_v20 : Ref sig .tc := ⟨.hbm, 114, rfl⟩
abbrev main_call7_c : Ref sig .tc := ⟨.hbm, 115, rfl⟩
abbrev main_call7_v0 : Ref sig .tc := ⟨.hbm, 116, rfl⟩
abbrev main_call7_v1 : Ref sig .tc := ⟨.hbm, 117, rfl⟩
abbrev main_call7_c_0 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_v5 : Ref sig .tc := ⟨.hbm, 122, rfl⟩
abbrev main_call7_c_1 : Ref sig .tc := ⟨.hbm, 123, rfl⟩
abbrev main_call7_c_2 : Ref sig .tc := ⟨.hbm, 124, rfl⟩
abbrev main_call7_v6 : Ref sig .tc := ⟨.hbm, 125, rfl⟩
abbrev main_call7_v7 : Ref sig .tc := ⟨.hbm, 126, rfl⟩
abbrev main_call7_v8 : Ref sig .tc := ⟨.hbm, 127, rfl⟩
abbrev main_call7_v9 : Ref sig .tc := ⟨.hbm, 128, rfl⟩
abbrev main_call7_v10 : Ref sig .tc := ⟨.hbm, 129, rfl⟩
abbrev main_call7_v11 : Ref sig .tc := ⟨.hbm, 130, rfl⟩
abbrev main_call7_c_3 : Ref sig .tc := ⟨.hbm, 131, rfl⟩
abbrev main_call7_v12 : Ref sig .tc := ⟨.hbm, 132, rfl⟩
abbrev main_call7_v13 : Ref sig .tc := ⟨.hbm, 133, rfl⟩
abbrev main_call7_v14 : Ref sig .tc := ⟨.hbm, 134, rfl⟩
abbrev main_call7_cst : Ref sig .tc := ⟨.hbm, 135, rfl⟩
abbrev main_call7_v15 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_v24 : Ref sig .tc := ⟨.hbm, 140, rfl⟩
abbrev main_call9_c : Ref sig .tc := ⟨.hbm, 141, rfl⟩
abbrev main_call9_v0 : Ref sig .tc := ⟨.hbm, 142, rfl⟩
abbrev main_call9_v1 : Ref sig .tc := ⟨.hbm, 143, rfl⟩
abbrev main_call9_c_0 : Ref sig .tc := ⟨.hbm, 144, rfl⟩
abbrev main_call9_v2 : Ref sig .tc := ⟨.hbm, 145, rfl⟩
abbrev main_call9_v3 : Ref sig .tc := ⟨.hbm, 146, rfl⟩
abbrev main_call9_v4 : Ref sig .tc := ⟨.hbm, 147, rfl⟩
abbrev main_call9_v5 : Ref sig .tc := ⟨.hbm, 148, rfl⟩
abbrev main_call9_c_1 : Ref sig .tc := ⟨.hbm, 149, rfl⟩
abbrev main_call9_c_2 : Ref sig .tc := ⟨.hbm, 150, rfl⟩
abbrev main_call9_v6 : Ref sig .tc := ⟨.hbm, 151, rfl⟩
abbrev main_call9_v7 : Ref sig .tc := ⟨.hbm, 152, rfl⟩
abbrev main_call9_v8 : Ref sig .tc := ⟨.hbm, 153, rfl⟩
abbrev main_call9_v9 : Ref sig .tc := ⟨.hbm, 154, rfl⟩
abbrev main_call9_v10 : Ref sig .tc := ⟨.hbm, 155, rfl⟩
abbrev main_call9_v11 : Ref sig .tc := ⟨.hbm, 156, rfl⟩
abbrev main_call9_c_3 : Ref sig .tc := ⟨.hbm, 157, rfl⟩
abbrev main_call9_v12 : Ref sig .tc := ⟨.hbm, 158, rfl⟩
abbrev main_call9_v13 : Ref sig .tc := ⟨.hbm, 159, rfl⟩
abbrev main_call9_v14 : Ref sig .tc := ⟨.hbm, 160, rfl⟩
abbrev main_call9_cst : Ref sig .tc := ⟨.hbm, 161, rfl⟩
abbrev main_call9_v15 : Ref sig .tc := ⟨.hbm, 162, rfl⟩
abbrev main_v25 : Ref sig .tc := ⟨.hbm, 163, rfl⟩
abbrev main_v26 : Ref sig .tc := ⟨.hbm, 164, rfl⟩
abbrev main_v27 : Ref sig .tc := ⟨.hbm, 165, rfl⟩
abbrev main_v28 : Ref sig .tc := ⟨.hbm, 166, rfl⟩
abbrev main_v29 : Ref sig .tc := ⟨.hbm, 167, rfl⟩
abbrev main_v30 : Ref sig .tc := ⟨.hbm, 168, rfl⟩

abbrev nD : Nat := 1
abbrev τ : Topo := Topo.v7x

variable {F : FTy → Type} [FloatOps F]
-- ==== Proof.Mix.lean ====
/- The array that both programs leave: every batch element's matrix of channels by places, mixed over the channels by
   the weight, the same for each of the four routes. -/
module

public import proofs.«01_k».proof.ReferenceIdeal
public import proofs.«01_k».proof.Proof.Gen.ReferenceIdeal
public import Idealize.ShloMosaic.Lib.Pointwise

@[expose] public section

noncomputable section

namespace Cert.Mix

open Cert.ReferenceIdeal Cert.ReferenceIdeal.Gen Idealize.ShloMosaic
open scoped BigOperators

/-- The picture with its two image axes laid out as one axis of places. -/
def flat (x : FVec Ideal S8x192x56x56 .f32) : FVec Ideal S8x192x3136 .f32 :=
  shapeCast S8x192x3136 x shapeCasts_S8x192x56x56_S8x192x3136

/-- Channel `e` of the mix at one place of one batch element: the weight's column `e` against the channels there. -/
def mixAt (u : FVec Ideal S8x192x3136 .f32) (W : FVec Ideal S192x192 .f32) (b : Fin 8) (e : Fin 192) (l : Fin 3136) :
    Ideal .f32 :=
  ∑ d : Fin 192, (W (ix2 d e) : EReal) * u (ix3 b d l)

/-- The whole result: the mix of the flat picture, at all four routes alike. -/
def mixed (x : FVec Ideal S8x192x56x56 .f32) (W : FVec Ideal S192x192 .f32) : FVec Ideal S8x4x192x3136 .f32 :=
  fun i => mixAt (flat x) W (i 0) (i 2) (i 3)

end Cert.Mix

end
-- ==== Proof.KernelValue.lean ====
/- The kernel's result array after its run is the mix of its arguments. -/
module

public import proofs.«01_k».proof.Proof.Mix
public import proofs.«01_k».proof.Proof.Gen.KernelIdeal.Value
public import Idealize.ShloMosaic.Lib.Pipeline.ValueKit

@[expose] public section

set_option maxRecDepth 16384

noncomputable section

namespace Cert.KernelIdeal.Mixed

open Cert.KernelIdeal Cert.KernelIdeal.Gen Idealize.ShloMosaic Idealize.ShloMosaic.TcCoe Idealize.SL.Sem
open Cert.Mix (flat mixAt mixed)

variable (m : (ℓ : Loc nD τ sig) → Buf (Elt Ideal) ℓ)

/-- Each grid point takes its own pair of batch elements, the whole weight, and its own pair of the result. -/
theorem idx : ∀ t : Fin cfg0.N, win0_0.index t = ![(grid0.coords t 0).val, 0, 0] ∧ win0_1.index t = ![0, 0]
    ∧ win0_2.index t = ![(grid0.coords t 0).val, 0, 0, 0] :=
  (by decide +kernel : ∀ t : Fin grid0.N, _)

/-- The product a block forms for one batch element, at one channel and place. -/
theorem pay4_apply (w : Vec Ideal S192x192 .f32) (v : Vec Ideal S1x192x3136 .f32) (e : Fin 192) (l : Fin 3136) :
    k0_pay4 w v (ix2 e l) = ∑ d : Fin 192, (w (ix2 d e) : EReal) * v (ix3 0 d l) := by
  unfold k0_pay4
  pointwise

/-- The first batch element of the block, loaded under a unit axis. -/
theorem first_apply (x : Vec Ideal S2x192x3136 .f32) (b : Fin 2) (d : Fin 192) (l : Fin 3136) (hb : b.val = 0) :
    View.ld x r0_1 (ix3 (0 : Fin 1) d l) = x (ix3 b d l) :=
  View.ld_unit_apply_of x _ _ _ _ _ fun a => by
    match a with
    | ⟨0, _⟩ => exact hb
    | ⟨1, _⟩ => exact (Nat.zero_add _).symm
    | ⟨2, _⟩ => exact (Nat.zero_add _).symm

/-- The second batch element of the block, loaded under a unit axis. -/
theorem second_apply (x : Vec Ideal S2x192x3136 .f32) (b : Fin 2) (d : Fin 192) (l : Fin 3136) (hb : b.val = 1) :
    View.ld x r0_6 (ix3 (0 : Fin 1) d l) = x (ix3 b d l) :=
  View.ld_unit_apply_of x _ _ _ _ _ fun a => by
    match a with
    | ⟨0, _⟩ => exact hb
    | ⟨1, _⟩ => exact (Nat.zero_add _).symm
    | ⟨2, _⟩ => exact (Nat.zero_add _).symm

/-- A stored piece: the product for the batch element `v`, under two unit axes, at the channel and place of `z`. -/
theorem piece_apply (w : Vec Ideal S192x192 .f32) (v : Vec Ideal S1x192x3136 .f32) (x : Vec Ideal S2x192x3136 .f32)
    (z : S1x1x192x3136.Idx) (y : S2x4x192x3136.Idx) (hv : ∀ d l, v (ix3 0 d l) = x (ix3 (y 0) d l))
    (h2 : (y 2).val = (z 2).val) (h3 : (y 3).val = (z 3).val) :
    shapeCast S1x1x192x3136 (k0_pay4 w v) shapeCasts_S192x3136_S1x1x192x3136 z
      = ∑ d : Fin 192, (w (ix2 d (y 2)) : EReal) * x (ix3 (y 0) d (y 3)) := by
  obtain ⟨p, q, e, l, rfl⟩ : ∃ (p : Fin 1) (q : Fin 1) (e : Fin 192) (l : Fin 3136), z = ix4 p q e l :=
    ⟨z 0, z 1, z 2, z 3, by blk_ext⟩
  have e2 : y 2 = e := Fin.ext h2
  have e3 : y 3 = l := Fin.ext h3
  have hz : shapeCast S1x1x192x3136 (k0_pay4 w v) shapeCasts_S192x3136_S1x1x192x3136 (ix4 p q e l) = k0_pay4 w v (ix2 e l) := by
    pointwise
  refine hz.trans ((pay4_apply w v e l).trans (Finset.sum_congr rfl fun d _ => ?_))
  rw [hv, e2, e3]

/-- The second batch element's product is the first's formula at the second batch element. -/
theorem pay11_eq (x : Vec Ideal S2x192x3136 .f32) (w : Vec Ideal S192x192 .f32) :
    k0_pay11 x w = k0_pay4 w (View.ld x r0_6) := by
  unfold k0_pay11
  rw [View.ld_unit_lit _ w (by decide)]
  rfl

/-- What one grid point leaves in its block of the result: at every batch element, route, channel and place, the
    product of that batch element's picture. -/
theorem block_apply (x : Vec Ideal S2x192x3136 .f32) (w : Vec Ideal S192x192 .f32) (y : S2x4x192x3136.Idx) :
    out0_2 x w y = ∑ d : Fin 192, (w (ix2 d (y 2)) : EReal) * x (ix3 (y 0) d (y 3)) := by
  frame_out
  canon_tiles z h
  · rw [pay11_eq]
    exact piece_apply w _ x z y (fun d l => second_apply x _ d l (by omega)) h2 h3
  · rw [pay11_eq]
    exact piece_apply w _ x z y (fun d l => second_apply x _ d l (by omega)) h2 h3
  · rw [pay11_eq]
    exact piece_apply w _ x z y (fun d l => second_apply x _ d l (by omega)) h2 h3
  · exact piece_apply w _ x z y (fun d l => second_apply x _ d l (by omega)) h2 h3
  all_goals exact piece_apply w _ x z y (fun d l => first_apply x _ d l (by omega)) h2 h3

/-- The array after the last point is the mix of the arguments. -/
theorem final (c : Dev nD) :
    (dats m 0 c).arrAt 2 cfg0.N = mixed (m ((c : Thread nD τ).loc main_arg0)) (m ((c : Thread nD τ).loc main_arg5)) := by
  refine (dats m 0 c).arrAt_eq_of_covers 2 _ (by decide +kernel) fun t hf y => ?_
  obtain ⟨h0, h1, h2⟩ := idx t
  blk_simp
  rw [after0_2, block_apply]
  unfold mixed mixAt
  refine Finset.sum_congr (M := EReal) rfl fun d _ => ?_
  refine congrArg₂ (fun a b : EReal => a * b) ?_ ?_
  · blk_ext [iblk, V, h1, h2]
  · have hV : V m c main_v0 = flat (m ((c : Thread nD τ).loc main_arg0)) := by
      entry_read
      rfl
    have hb : iblk m c 0 t = ((cfg0.win 0).blk t).view.read (Elt Ideal) (flat (m ((c : Thread nD τ).loc main_arg0))) := by
      unfold iblk
      exact congrArg _ hV
    rw [hb]
    blk_ext [h0, h2]

end Cert.KernelIdeal.Mixed

end
-- ==== Proof.Take.lean ====
/- Reading an array along a table of positions, as `jnp.take` reads it: a negative position counts from the end, a
   position outside the array gives a filler. This module says what such a read returns at one index. -/
module

public import proofs.«01_k».proof.ReferenceIdeal
public import proofs.«01_k».proof.Pre_routes_inverted
public import proofs.«01_k».proof.Proof.Gen.ReferenceIdeal
public import proofs.«01_k».proof.Proof.Gen.Pre_routes_inverted
public import Idealize.ShloMosaic.Lib.Pointwise
public import Idealize.ShloMosaic.Lib.StableHlo.Predicate

@[expose] public section

noncomputable section

namespace Cert.Routes

open Cert.ReferenceIdeal Cert.ReferenceIdeal.Gen Idealize.ShloMosaic

/-! ## One position word -/

/-- A position word with the negative ones counted from the end of an axis of 3136. -/
def wrapWord (w : BitVec 32) : BitVec 32 := Scalar.select (IntOp.cmpi .slt w 0#32) (IntOp.addi w 3136#32) w

/-- The bit that says whether a wrapped position lies on the axis. -/
def insideBit (w : BitVec 32) : BitVec 1 :=
  IntOp.andi (IntOp.cmpi .sge (wrapWord w) 0#32) (IntOp.cmpi .sle (wrapWord w) 3135#32)

/-- A word that lies on the axis is its own wrapped position. -/
theorem wrapWord_of_lt {w : BitVec 32} (h : w.toNat < 3136) : wrapWord w = w := by
  have : IntOp.cmpi .slt w 0#32 = 0#1 := by
    rcases BitVec.eq_zero_or_eq_one (IntOp.cmpi .slt w 0#32) with h0 | h1
    · exact h0
    · exact absurd ((StableHlo.Predicate.slt_iff_toNat (by omega) (by decide)).1 h1) (by simp)
  unfold wrapWord
  rw [this]
  rfl

/-- The bit is set only at a wrapped position below 3136. -/
theorem toNat_lt_of_insideBit {w : BitVec 32} (h : insideBit w = 1#1) : (wrapWord w).toNat < 3136 := by
  have key : ∀ v : BitVec 32, IntOp.andi (IntOp.cmpi .sge v 0#32) (IntOp.cmpi .sle v 3135#32) = 1#1 → v.toNat < 3136 := by
    intro v hv
    have h1 : IntOp.cmpi .sge v 0#32 = 1#1 ∧ IntOp.cmpi .sle v 3135#32 = 1#1 := by
      revert hv
      rcases BitVec.eq_zero_or_eq_one (IntOp.cmpi .sge v 0#32) with a | a <;>
        rcases BitVec.eq_zero_or_eq_one (IntOp.cmpi .sle v 3135#32) with b | b <;> rw [a, b] <;> decide
    obtain ⟨h1, h2⟩ := h1
    simp only [IntOp.cmpi, StableHlo.Predicate.ofBool_eq_one_iff, BitVec.sle, decide_eq_true_eq] at h1 h2
    have e0 : (0#32 : BitVec 32).toInt = 0 := by decide
    have e1 : (3135#32 : BitVec 32).toInt = 3135 := by decide
    rw [e0] at h1
    rw [e1] at h2
    rw [BitVec.toInt_eq_toNat_cond] at h1 h2
    split at h1 <;> omega
  exact key _ h

/-- At a wrapped position below 3136 the bit is set. -/
theorem insideBit_of_toNat_lt {w : BitVec 32} (h : (wrapWord w).toNat < 3136) : insideBit w = 1#1 := by
  unfold insideBit
  rw [(StableHlo.Predicate.sge_iff_toNat (by omega) (by decide)).2 (by simp),
    (StableHlo.Predicate.sle_iff_toNat (by omega) (by decide)).2 (by simp; omega)]
  rfl

/-! ## A table of positions -/

/-- The table's wrapped positions, as the column that a gather starts from. -/
def starts (p : IVec S3136 32) : IVec S3136x1 32 :=
  broadcastInDim S3136x1 ![0] bcast_S3136_S3136x1_0
    (select (cmpi .slt p (broadcastInDim S3136 ![] bcast_S_S3136 (constantI S_ 32 0#32)))
      (addi p (broadcastInDim S3136 ![] bcast_S_S3136 (constantI S_ 32 3136#32))) p)

/-- Which of the table's positions lie on the axis. -/
def inside (p : IVec S3136 32) : IVec S3136 1 :=
  Host.reduce IntOp.andi
    (andi (cmpi .sge (starts p) (broadcastInDim S3136x1 ![] bcast_S_S3136x1 (constantI S_ 32 0#32)))
      (cmpi .sle (starts p) (broadcastInDim S3136x1 ![0, 1] bcast_S1x1_S3136x1_0_1
        (broadcastInDim S1x1 ![1] bcast_S1_S1x1_1 (constantI S1 32 3135#32)))))
    (constantI S_ 1 1#1) reducesTo_S3136x1_S3136_d1 h_S_

/-- The column of starts at a place is that place's wrapped word. -/
theorem starts_apply (p : IVec S3136 32) (j : Fin 3136) (z : Fin 1) : starts p (ix2 j z) = wrapWord (p (ix1 j)) := by
  unfold starts wrapWord
  pointwise

/-- A position's bit among the table's is that of its word. -/
theorem inside_apply (p : IVec S3136 32) (j : Fin 3136) : inside p (ix1 j) = insideBit (p (ix1 j)) := by
  have hr : S3136x1.Reduces [1] S3136 := by decide
  have hl : hr.lift (ix1 j) (0 : Fin 1) = ix2 j (0 : Fin 1) := by
    funext d
    match d with
    | ⟨0, _⟩ => rfl
    | ⟨1, _⟩ => rfl
  unfold inside
  rw [Host.reduce_eq_fold_single _ _ _ _ hr]
  refine (Finset.fold_singleton (a := (0 : Fin 1))).trans ?_
  have one : ∀ x : BitVec 1, IntOp.andi x 1#1 = x := by decide
  refine (one _).trans ((congrArg _ hl).trans ?_)
  unfold insideBit
  pointwise
  rw [starts_apply]

/-- The read along the last axis of a batch of channels at the table's positions, NaN where a position is outside. -/
def take (u : FVec Ideal S8x192x3136 .f32) (p : IVec S3136 32) : FVec Ideal S8x192x3136 .f32 :=
  select (broadcastInDim S8x192x3136 ![2] bcast_S3136_S8x192x3136_2 (inside p))
    (Host.gather gather_S8x192x3136_S3136x1_S8x192x3136_01_2_n_n_2_1_81921 u (starts p))
    (broadcastInDim S8x192x3136 ![] bcast_S_S8x192x3136 (constant S_ .f32 0x7FC00000#32))

/-- The gather alone: the start word is read signed and clamped onto the axis. -/
theorem gather_apply {α : Type} (u : S8x192x3136.Idx → α) (s : IVec S3136x1 32) (b : Fin 8) (e : Fin 192) (j : Fin 3136) :
    Host.gather gather_S8x192x3136_S3136x1_S8x192x3136_01_2_n_n_2_1_81921 u s (ix3 b e j)
      = u (ix3 b e ⟨min (s (ix2 j 0)).toInt.toNat 3135, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hi : ∀ c, GatherDims.siIdx gather_S8x192x3136_S3136x1_S8x192x3136_01_2_n_n_2_1_81921 (ix3 b e j) c = ix2 j (0 : Fin 1) := by
      intro c
      have hc : c.val = 0 := Nat.lt_one_iff.1 c.isLt
      funext d
      refine Fin.ext ?_
      match d with
      | ⟨0, _⟩ => rfl
      | ⟨1, _⟩ => exact hc
    rw [hi]
    rfl

/-- Where the wrapped position is the place `r` of the axis, the read is the array's element there. -/
theorem take_apply (u : FVec Ideal S8x192x3136 .f32) (p : IVec S3136 32) (b : Fin 8) (e : Fin 192) (j r : Fin 3136)
    (h : (wrapWord (p (ix1 j))).toNat = r.val) : take u p (ix3 b e j) = u (ix3 b e r) := by
  have hr := r.isLt
  have ht : (wrapWord (p (ix1 j))).toInt.toNat = r.val := by
    rw [StableHlo.Predicate.toInt_eq_toNat_of_lt (by omega), h]
    rfl
  unfold take
  pointwise
  rw [inside_apply, insideBit_of_toNat_lt (by omega), gather_apply]
  refine congrArg u (congrArg (ix3 b e) (Fin.ext ?_))
  show min (starts p (ix2 j 0)).toInt.toNat 3135 = r.val
  rw [starts_apply]
  omega

end Cert.Routes

end
-- ==== Proof.Routes.lean ====
/- What the precondition says of the two pairs of tables: for every place of the axis, the inverse table names a place
   (from either end) at which the forward table holds that first place. -/
module

public import proofs.«01_k».proof.Proof.Take

@[expose] public section

noncomputable section

namespace Cert.Routes

open Cert.ReferenceIdeal Cert.ReferenceIdeal.Gen Idealize.ShloMosaic

/-- The table `p` undoes the table `t`: the word of `p` at `j` wraps to a place where `t` holds the word of `j`. -/
def Undoes (t p : IVec S3136 32) : Prop :=
  ∀ j : Fin 3136, ∃ r : Fin 3136, (wrapWord (p (ix1 j))).toNat = r.val ∧ t (ix1 r) = BitVec.ofNat 32 j.val

/-- The read of one table at the positions of another, the least word where a position is outside. -/
def look (t p : IVec S3136 32) : IVec S3136 32 :=
  select (inside p) (Host.gather Cert.Pre_routes_inverted.gather_S3136_S3136x1_S3136_n_0_n_n_0_1_1 t (starts p))
    (broadcastInDim S3136 ![] bcast_S_S3136 (constantI S_ 32 2147483648#32))

/-- The predicate's read of a table is `look`. -/
theorem fn_take_eq (t p : IVec S3136 32) : Cert.Pre_routes_inverted.fn_take (F := Ideal) t p = look t p := rfl

/-- The gather of a table of words: the start word is read signed and clamped onto the axis. -/
theorem gather_word (t : IVec S3136 32) (s : IVec S3136x1 32) (j : Fin 3136) :
    Host.gather Cert.Pre_routes_inverted.gather_S3136_S3136x1_S3136_n_0_n_n_0_1_1 t s (ix1 j)
      = t (ix1 ⟨min (s (ix2 j 0)).toInt.toNat 3135, by omega⟩) := by
  have ho : ∀ q : Fin 3136, (Shape.Idx.ofFin q : S3136.Idx) = ix1 q := by
    intro q
    funext d
    match d with
    | ⟨0, _⟩ => rfl
  have hp : (StableHlo.Predicate.ixP j : S3136x1.Idx) = ix2 j 0 := by
    funext d
    match d with
    | ⟨0, _⟩ => rfl
    | ⟨1, _⟩ => rfl
  have h := StableHlo.Predicate.gather_take Cert.Pre_routes_inverted.gather_S3136_S3136x1_S3136_n_0_n_n_0_1_1 rfl rfl rfl rfl
    t s j (by decide)
  refine (congrArg _ (ho j)).symm.trans (h.trans ((congrArg t (ho _)).trans (congrArg t (congrArg ix1 (Fin.ext ?_)))))
  exact congrArg (fun i => min (s i).toInt.toNat 3135) hp

/-- A read that returns the places in order comes from a table that undoes the other. -/
theorem undoes_of_look {t p : IVec S3136 32} (h : ∀ j : Fin 3136, look t p (ix1 j) = BitVec.ofNat 32 j.val) :
    Undoes t p := by
  intro j
  have hj := h j
  unfold look at hj
  have e : Scalar.select (insideBit (p (ix1 j))) (t (ix1 ⟨min (starts p (ix2 j 0)).toInt.toNat 3135, by omega⟩)) 2147483648#32
      = BitVec.ofNat 32 j.val := by
    rw [← hj, ← gather_word t (starts p) j, ← inside_apply]
    pointwise
  rcases BitVec.eq_zero_or_eq_one (insideBit (p (ix1 j))) with h0 | h1
  · rw [h0] at e
    have e' : (2147483648#32).toNat = (BitVec.ofNat 32 j.val).toNat := congrArg BitVec.toNat e
    have := j.isLt
    simp at e'
    omega
  · rw [h1] at e
    have hw := toNat_lt_of_insideBit h1
    refine ⟨⟨(wrapWord (p (ix1 j))).toNat, hw⟩, rfl, ?_⟩
    refine Eq.trans (congrArg t (congrArg ix1 (Fin.ext ?_))) e
    show (wrapWord (p (ix1 j))).toNat = min (starts p (ix2 j 0)).toInt.toNat 3135
    rw [starts_apply, StableHlo.Predicate.toInt_eq_toNat_of_lt (by omega)]
    simp
    omega

/-- The precondition at all ones makes each inverse table undo its forward table. -/
theorem undoes_of_pre {x : FVec Ideal S8x192x56x56 .f32} {t0 t1 p0 p1 : IVec S3136 32} {W : FVec Ideal S192x192 .f32}
    (h : Cert.Pre_routes_inverted.fn (F := Ideal) x t0 t1 p0 p1 W = fun _ => 1#1) : Undoes t0 p0 ∧ Undoes t1 p1 := by
  have h' : ∀ j : Fin 3136, look t0 p0 (ix1 j) = BitVec.ofNat 32 j.val ∧ look t1 p1 (ix1 j) = BitVec.ofNat 32 j.val := by
    intro j
    have hj : IntOp.andi (IntOp.cmpi .eq (look t0 p0 (ix1 j)) (BitVec.ofNat 32 j.val))
        (IntOp.cmpi .eq (look t1 p1 (ix1 j)) (BitVec.ofNat 32 j.val)) = 1#1 := congrFun h (ix1 j)
    have both : ∀ a b : BitVec 1, IntOp.andi a b = 1#1 → a = 1#1 ∧ b = 1#1 := by decide
    obtain ⟨a, b⟩ := both _ _ hj
    exact ⟨StableHlo.Predicate.cmpi_eq_iff.1 a, StableHlo.Predicate.cmpi_eq_iff.1 b⟩
  exact ⟨undoes_of_look fun j => (h' j).1, undoes_of_look fun j => (h' j).2⟩

/-- Reading along a table that undoes another fetches, at every place, from a place which the other's read filled from
    the first place. -/
theorem Undoes.place {t p : IVec S3136 32} (h : Undoes t p) (j : Fin 3136) :
    ∃ r : Fin 3136, (∀ v b e, take v p (ix3 b e j) = v (ix3 b e r)) ∧ ∀ v b e, take v t (ix3 b e r) = v (ix3 b e j) := by
  obtain ⟨r, hr, ht⟩ := h j
  refine ⟨r, fun v b e => take_apply v p b e j r hr, fun v b e => take_apply v t b e r j ?_⟩
  have hj := j.isLt
  have hn : (BitVec.ofNat 32 j.val).toNat = j.val := by simp; omega
  rw [ht, wrapWord_of_lt (by omega), hn]

end Cert.Routes

end
-- ==== Proof.RefValue.lean ====
/- The reference's result, read at an index: where the inverse tables undo the forward ones, every route's reordering
   cancels and the mix is left. -/
module

public import proofs.«01_k».proof.Proof.Mix
public import proofs.«01_k».proof.Proof.Routes
public import proofs.«01_k».proof.Proof.Gen.ReferenceIdeal.Run

@[expose] public section

set_option maxRecDepth 16384

noncomputable section

namespace Cert.ReferenceIdeal.Mixed

open Cert.ReferenceIdeal Cert.ReferenceIdeal.Gen Idealize.ShloMosaic Idealize.ShloMosaic.TcCoe Idealize.SL.Sem
open Cert.Mix (flat mixAt mixed)
open Cert.Routes (take Undoes)
open scoped BigOperators

/-- Four arrays of a batch of channels, stacked along a new axis of routes. -/
def stack4 (a b c d : FVec Ideal S8x192x3136 .f32) : FVec Ideal S8x4x192x3136 .f32 :=
  Value.fn_main_v30 (F := Ideal) (broadcastInDim S8x1x192x3136 ![0, 2, 3] bcast_S8x192x3136_S8x1x192x3136_0_2_3 a)
    (broadcastInDim S8x1x192x3136 ![0, 2, 3] bcast_S8x192x3136_S8x1x192x3136_0_2_3 b)
    (broadcastInDim S8x1x192x3136 ![0, 2, 3] bcast_S8x192x3136_S8x1x192x3136_0_2_3 c)
    (broadcastInDim S8x1x192x3136 ![0, 2, 3] bcast_S8x192x3136_S8x1x192x3136_0_2_3 d)

/-- The places of an array in the opposite order. -/
def flip (u : FVec Ideal S8x192x3136 .f32) : FVec Ideal S8x192x3136 .f32 := Host.reverse [2] u

/-- The four scans of the picture: along either forward table, and each backwards. -/
def scans (x : FVec Ideal S8x192x3136 .f32) (t0 t1 : IVec S3136 32) : FVec Ideal S8x4x192x3136 .f32 :=
  stack4 (take x t0) (flip (take x t0)) (take x t1) (flip (take x t1))

/-- The channel mix of every route. -/
def engine (W : FVec Ideal S192x192 .f32) (s : FVec Ideal S8x4x192x3136 .f32) : FVec Ideal S8x4x192x3136 .f32 :=
  transpose S8x4x192x3136 [1, 2, 0, 3] (Host.dotGeneral dot_S192x192_S8x4x192x3136_S192x8x4x3136_0_2_1_013_n_n none W s)
    transposes_S192x8x4x3136_S8x4x192x3136_1_2_0_3

/-- The first route of a stack, as an array of a batch of channels. -/
def route0 (y : FVec Ideal S8x4x192x3136 .f32) : FVec Ideal S8x192x3136 .f32 :=
  shapeCast S8x192x3136 (extractStridedSlice S8x1x192x3136 ![0, 0, 0, 0] y slices_S8x4x192x3136_S8x1x192x3136_0_0_0_0)
    shapeCasts_S8x1x192x3136_S8x192x3136
/-- The second route of a stack, as an array of a batch of channels. -/
def route1 (y : FVec Ideal S8x4x192x3136 .f32) : FVec Ideal S8x192x3136 .f32 :=
  shapeCast S8x192x3136 (extractStridedSlice S8x1x192x3136 ![0, 1, 0, 0] y slices_S8x4x192x3136_S8x1x192x3136_0_1_0_0)
    shapeCasts_S8x1x192x3136_S8x192x3136
/-- The third route of a stack, as an array of a batch of channels. -/
def route2 (y : FVec Ideal S8x4x192x3136 .f32) : FVec Ideal S8x192x3136 .f32 :=
  shapeCast S8x192x3136 (extractStridedSlice S8x1x192x3136 ![0, 2, 0, 0] y slices_S8x4x192x3136_S8x1x192x3136_0_2_0_0)
    shapeCasts_S8x1x192x3136_S8x192x3136
/-- The fourth route of a stack, as an array of a batch of channels. -/
def route3 (y : FVec Ideal S8x4x192x3136 .f32) : FVec Ideal S8x192x3136 .f32 :=
  shapeCast S8x192x3136 (extractStridedSlice S8x1x192x3136 ![0, 3, 0, 0] y slices_S8x4x192x3136_S8x1x192x3136_0_3_0_0)
    shapeCasts_S8x1x192x3136_S8x192x3136

/-- The routes put back in the picture's order by the inverse tables, the backward ones turned first. -/
def rearranged (y : FVec Ideal S8x4x192x3136 .f32) (p0 p1 : IVec S3136 32) : FVec Ideal S8x4x192x3136 .f32 :=
  stack4 (take (route0 y) p0) (take (flip (route1 y)) p0) (take (route2 y) p1) (take (flip (route3 y)) p1)

/-- The reference's result is its scans, mixed and rearranged. -/
theorem res_eq (m : (ℓ : Loc nD τ sig) → Buf (Elt Ideal) ℓ) (c : Dev nD) :
    Value.res_out0 m c = rearranged (engine (m ((c.tc : Thread nD τ).loc main_arg5))
        (scans (flat (m ((c.tc : Thread nD τ).loc main_arg0))) (m ((c.tc : Thread nD τ).loc main_arg1)) (m ((c.tc : Thread nD τ).loc main_arg2))))
      (m ((c.tc : Thread nD τ).loc main_arg3)) (m ((c.tc : Thread nD τ).loc main_arg4)) := rfl

/-- The stack's first route is its first array. -/
theorem stack4_0 (a b c d : FVec Ideal S8x192x3136 .f32) (i : Fin 8) (e : Fin 192) (l : Fin 3136) :
    stack4 a b c d (ix4 i 0 e l) = a (ix3 i e l) := by
  unfold stack4 Value.fn_main_v30
  pointwise
/-- The stack's second route is its second array. -/
theorem stack4_1 (a b c d : FVec Ideal S8x192x3136 .f32) (i : Fin 8) (e : Fin 192) (l : Fin 3136) :
    stack4 a b c d (ix4 i 1 e l) = b (ix3 i e l) := by
  unfold stack4 Value.fn_main_v30
  pointwise
/-- The stack's third route is its third array. -/
theorem stack4_2 (a b c d : FVec Ideal S8x192x3136 .f32) (i : Fin 8) (e : Fin 192) (l : Fin 3136) :
    stack4 a b c d (ix4 i 2 e l) = c (ix3 i e l) := by
  unfold stack4 Value.fn_main_v30
  pointwise
/-- The stack's fourth route is its fourth array. -/
theorem stack4_3 (a b c d : FVec Ideal S8x192x3136 .f32) (i : Fin 8) (e : Fin 192) (l : Fin 3136) :
    stack4 a b c d (ix4 i 3 e l) = d (ix3 i e l) := by
  unfold stack4 Value.fn_main_v30
  pointwise

/-- A turned array at a place is the array at the place counted from the end. -/
theorem flip_apply (u : FVec Ideal S8x192x3136 .f32) (i : Fin 8) (e : Fin 192) (l : Fin 3136) :
    flip u (ix3 i e l) = u (ix3 i e l.rev) := by
  unfold flip
  pointwise
  rfl

/-- The mix at one route, channel and place: the weight's column against that route's channels there. -/
theorem engine_apply (W : FVec Ideal S192x192 .f32) (s : FVec Ideal S8x4x192x3136 .f32) (i : Fin 8) (k : Fin 4) (e : Fin 192) (l : Fin 3136) :
    engine W s (ix4 i k e l) = ∑ d : Fin 192, (W (ix2 d e) : EReal) * s (ix4 i k d l) := by
  unfold engine
  pointwise

/-- The first route at an index is the stack there. -/
theorem route0_apply (y : FVec Ideal S8x4x192x3136 .f32) (i : Fin 8) (e : Fin 192) (l : Fin 3136) :
    route0 y (ix3 i e l) = y (ix4 i 0 e l) := by
  unfold route0
  pointwise
/-- The second route at an index is the stack there. -/
theorem route1_apply (y : FVec Ideal S8x4x192x3136 .f32) (i : Fin 8) (e : Fin 192) (l : Fin 3136) :
    route1 y (ix3 i e l) = y (ix4 i 1 e l) := by
  unfold route1
  pointwise
/-- The third route at an index is the stack there. -/
theorem route2_apply (y : FVec Ideal S8x4x192x3136 .f32) (i : Fin 8) (e : Fin 192) (l : Fin 3136) :
    route2 y (ix3 i e l) = y (ix4 i 2 e l) := by
  unfold route2
  pointwise
/-- The fourth route at an index is the stack there. -/
theorem route3_apply (y : FVec Ideal S8x4x192x3136 .f32) (i : Fin 8) (e : Fin 192) (l : Fin 3136) :
    route3 y (ix3 i e l) = y (ix4 i 3 e l) := by
  unfold route3
  pointwise

/-- Where the inverse tables undo the forward ones, the rearranged mix of the scans is the mix of the picture. -/
theorem rearranged_eq {t0 t1 p0 p1 : IVec S3136 32} (h0 : Undoes t0 p0) (h1 : Undoes t1 p1) (u : FVec Ideal S8x192x3136 .f32)
    (W : FVec Ideal S192x192 .f32) (i : Fin 8) (k : Fin 4) (e : Fin 192) (l : Fin 3136) :
    rearranged (engine W (scans u t0 t1)) p0 p1 (ix4 i k e l) = mixAt u W i e l := by
  obtain ⟨r, hp, ht⟩ := h0.place l
  obtain ⟨q, hp', ht'⟩ := h1.place l
  unfold rearranged scans mixAt
  match k with
  | ⟨0, _⟩ =>
    refine (stack4_0 _ _ _ _ i e l).trans ?_
    rw [hp, route0_apply, engine_apply]
    exact Finset.sum_congr rfl fun d _ => by rw [stack4_0, ht]
  | ⟨1, _⟩ =>
    refine (stack4_1 _ _ _ _ i e l).trans ?_
    rw [hp, flip_apply, route1_apply, engine_apply]
    exact Finset.sum_congr rfl fun d _ => by rw [stack4_1, flip_apply, Fin.rev_rev, ht]
  | ⟨2, _⟩ =>
    refine (stack4_2 _ _ _ _ i e l).trans ?_
    rw [hp', route2_apply, engine_apply]
    exact Finset.sum_congr rfl fun d _ => by rw [stack4_2, ht']
  | ⟨3, _⟩ =>
    refine (stack4_3 _ _ _ _ i e l).trans ?_
    rw [hp', flip_apply, route3_apply, engine_apply]
    exact Finset.sum_congr rfl fun d _ => by rw [stack4_3, flip_apply, Fin.rev_rev, ht']

/-- The reference's result is the mix of its arguments where the inverse tables undo the forward ones. -/
theorem final (m : (ℓ : Loc nD τ sig) → Buf (Elt Ideal) ℓ) (c : Dev nD)
    (h0 : Undoes (m ((c.tc : Thread nD τ).loc main_arg1)) (m ((c.tc : Thread nD τ).loc main_arg3)))
    (h1 : Undoes (m ((c.tc : Thread nD τ).loc main_arg2)) (m ((c.tc : Thread nD τ).loc main_arg4))) :
    Value.res_out0 m c = mixed (m ((c.tc : Thread nD τ).loc main_arg0)) (m ((c.tc : Thread nD τ).loc main_arg5)) := by
  rw [res_eq]
  funext i
  obtain ⟨b, k, e, l, rfl⟩ : ∃ (b : Fin 8) (k : Fin 4) (e : Fin 192) (l : Fin 3136), i = ix4 b k e l :=
    ⟨i 0, i 1, i 2, i 3, by
      funext a
      match a with
      | ⟨0, _⟩ => rfl
      | ⟨1, _⟩ => rfl
      | ⟨2, _⟩ => rfl
      | ⟨3, _⟩ => rfl⟩
  exact rearranged_eq h0 h1 _ _ b k e l

end Cert.ReferenceIdeal.Mixed

end
-- ==== Proof.lean ====
/- The certificate: the kernel and its reference run and leave their arguments alone, and, where the inverse tables undo
   the forward ones, both leave the same array. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_routes_inverted
public import proofs.«01_k».proof.Proof.KernelValue
public import proofs.«01_k».proof.Proof.RefValue
public import Idealize.ShloMosaic.Lib.Quiescent

@[expose] public section

noncomputable section

namespace Cert.Proof

open Idealize.ShloMosaic Idealize.SL.Sem Cert.Kernel

/-- The kernel's frame over the float words. -/
theorem frame_kernel : Cert.quiescent_Kernel := fun m ρ _ => Cert.Kernel.Gen.frame m ρ

/-- The kernel's frame over the ideal values. -/
theorem frame_kernel_ideal : Cert.quiescent_KernelIdeal := fun m ρ _ => Cert.KernelIdeal.Gen.frame m ρ

/-- The reference runs and its arguments end unchanged; it has no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree, and whose inverse tables undo the forward ones, the kernel and the reference end with one
    array: the mix of the picture's channels, at every route. -/
theorem same_result : Cert.algebraic_KernelIdeal_ReferenceIdeal_pre_routes_inverted := by
  intro m g m' g' hpre hagree
  refine ⟨fun c => Cert.Mix.mixed (m ((c.tc : Thread Cert.KernelIdeal.nD Cert.KernelIdeal.τ).loc Cert.KernelIdeal.main_arg0))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Mixed.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨a0, a1, a2, a3, a4, a5⟩ := hagree c
    obtain ⟨u0, u1⟩ := Cert.Routes.undoes_of_pre (hpre c)
    refine (Cert.ReferenceIdeal.Mixed.final m' c ?_ ?_).trans ?_
    · rw [a1, a3]
      exact u0
    · rw [a2, a4]
      exact u1
    · rw [a0, a5]

/-- The whole claim. -/
theorem claim : Cert.Claim :=
  ⟨Cert.Kernel.Gen.facts, Cert.KernelIdeal.Gen.facts, Cert.ReferenceIdeal.Gen.facts, Cert.Pre_routes_inverted.Gen.facts,
    frame_kernel, frame_kernel_ideal, fun m ρ _ => frame_kernel_ideal m ρ trivial,
    frame_reference_ideal, fun m ρ _ => frame_reference_ideal m ρ trivial, trivial, same_result⟩

end Cert.Proof

end
